-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x7168x2048 : Shape := ⟨3, ![2, 7168, 2048]⟩
abbrev S2x224x64 : Shape := ⟨3, ![2, 224, 64]⟩
abbrev S2x2048x18432 : Shape := ⟨3, ![2, 2048, 18432]⟩
abbrev S2x64x576 : Shape := ⟨3, ![2, 64, 576]⟩
abbrev S2x224x64x32 : Shape := ⟨4, ![2, 224, 64, 32]⟩
abbrev S2x224x2048 : Shape := ⟨3, ![2, 224, 2048]⟩
abbrev S2x64x576x32 : Shape := ⟨4, ![2, 64, 576, 32]⟩
abbrev S2x64x18432 : Shape := ⟨3, ![2, 64, 18432]⟩
abbrev S7168x18432 : Shape := ⟨2, ![7168, 18432]⟩
abbrev S2x1024x2048 : Shape := ⟨3, ![2, 1024, 2048]⟩
abbrev S2x32x2048 : Shape := ⟨3, ![2, 32, 2048]⟩
abbrev S2x2048x512 : Shape := ⟨3, ![2, 2048, 512]⟩
abbrev S2x64x512 : Shape := ⟨3, ![2, 64, 512]⟩
abbrev S1024x512 : Shape := ⟨2, ![1024, 512]⟩
abbrev S1x2048x512 : Shape := ⟨3, ![1, 2048, 512]⟩
abbrev S2048x512 : Shape := ⟨2, ![2048, 512]⟩
abbrev S1x64x512 : Shape := ⟨3, ![1, 64, 512]⟩
abbrev S64x512 : Shape := ⟨2, ![64, 512]⟩
abbrev S64x32x512 : Shape := ⟨3, ![64, 32, 512]⟩
abbrev S64x1x512 : Shape := ⟨3, ![64, 1, 512]⟩
abbrev S1x1024x2048 : Shape := ⟨3, ![1, 1024, 2048]⟩
abbrev S1024x2048 : Shape := ⟨2, ![1024, 2048]⟩
abbrev S1x32x2048 : Shape := ⟨3, ![1, 32, 2048]⟩
abbrev S32x2048 : Shape := ⟨2, ![32, 2048]⟩
abbrev S32x32x2048 : Shape := ⟨3, ![32, 32, 2048]⟩
abbrev S32x1x2048 : Shape := ⟨3, ![32, 1, 2048]⟩

abbrev nBuf : Space → Nat
  | .hbm => 11
  | .vmem => 11
  | .smem => 0
  | _ => 0

abbrev bufTy : (tb : Table) → Fin (tcTables nBuf tb) → BufTy
  | .hbm, ⟨0, _⟩ => ⟨S2x7168x2048, .i8⟩
  | .hbm, ⟨1, _⟩ => ⟨S2x224x64, .f32⟩
  | .hbm, ⟨2, _⟩ => ⟨S2x2048x18432, .i8⟩
  | .hbm, ⟨3, _⟩ => ⟨S2x64x576, .f32⟩
  | .hbm, ⟨4, _⟩ => ⟨S2x224x64, .bf16⟩
  | .hbm, ⟨5, _⟩ => ⟨S2x224x64x32, .bf16⟩
  | .hbm, ⟨6, _⟩ => ⟨S2x224x2048, .bf16⟩
  | .hbm, ⟨7, _⟩ => ⟨S2x64x576, .bf16⟩
  | .hbm, ⟨8, _⟩ => ⟨S2x64x576x32, .bf16⟩
  | .hbm, ⟨9, _⟩ => ⟨S2x64x18432, .bf16⟩
  | .hbm, ⟨10, _⟩ => ⟨S7168x18432, .f32⟩
  | .local _ .vmem, ⟨0, _⟩ => ⟨S2x1024x2048, .i8⟩
  | .local _ .vmem, ⟨1, _⟩ => ⟨S2x1024x2048, .i8⟩
  | .local _ .vmem, ⟨2, _⟩ => ⟨S2x32x2048, .bf16⟩
  | .local _ .vmem, ⟨3, _⟩ => ⟨S2x32x2048, .bf16⟩
  | .local _ .vmem, ⟨4, _⟩ => ⟨S2x2048x512, .i8⟩
  | .local _ .vmem, ⟨5, _⟩ => ⟨S2x2048x512, .i8⟩
  | .local _ .vmem, ⟨6, _⟩ => ⟨S2x64x512, .bf16⟩
  | .local _ .vmem, ⟨7, _⟩ => ⟨S2x64x512, .bf16⟩
  | .local _ .vmem, ⟨8, _⟩ => ⟨S1024x512, .f32⟩
  | .local _ .vmem, ⟨9, _⟩ => ⟨S1024x512, .f32⟩
  | .local _ .vmem, ⟨10, _⟩ => ⟨S2x2048x512, .bf16⟩
  | _, _ => ⟨S2x7168x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![36, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x1024x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x32x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x2048x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x7168x2048 : Shape := ⟨3, ![2, 7168, 2048]⟩
abbrev S2x224x64 : Shape := ⟨3, ![2, 224, 64]⟩
abbrev S2x2048x18432 : Shape := ⟨3, ![2, 2048, 18432]⟩
abbrev S2x64x576 : Shape := ⟨3, ![2, 64, 576]⟩
abbrev S2x224x32x64x32 : Shape := ⟨5, ![2, 224, 32, 64, 32]⟩
abbrev S2x224x1x64x1 : Shape := ⟨5, ![2, 224, 1, 64, 1]⟩
abbrev S2x64x32x576x32 : Shape := ⟨5, ![2, 64, 32, 576, 32]⟩
abbrev S2x64x1x576x1 : Shape := ⟨5, ![2, 64, 1, 576, 1]⟩
abbrev S7168x18432 : Shape := ⟨2, ![7168, 18432]⟩

abbrev nBuf : Space → Nat
  | .hbm => 19
  | .vmem => 4
  | .smem => 0
  | _ => 0

abbrev bufTy : (tb : Table) → Fin (tcTables nBuf tb) → BufTy
  | .hbm, ⟨0, _⟩ => ⟨S2x7168x2048, .i8⟩
  | .hbm, ⟨1, _⟩ => ⟨S2x224x64, .f32⟩
  | .hbm, ⟨2, _⟩ => ⟨S2x2048x18432, .i8⟩
  | .hbm, ⟨3, _⟩ => ⟨S2x64x576, .f32⟩
  | .hbm, ⟨4, _⟩ => ⟨S2x7168x2048, .bf16⟩
  | .hbm, ⟨5, _⟩ => ⟨S2x2048x18432, .bf16⟩
  | .hbm, ⟨6, _⟩ => ⟨S2x224x32x64x32, .bf16⟩
  | .hbm, ⟨7, _⟩ => ⟨S2x224x64, .bf16⟩
  | .hbm, ⟨8, _⟩ => ⟨S2x224x1x64x1, .bf16⟩
  | .hbm, ⟨9, _⟩ => ⟨S2x224x32x64x32, .bf16⟩
  | .hbm, ⟨10, _⟩ => ⟨S2x224x32x64x32, .bf16⟩
  | .hbm, ⟨11, _⟩ => ⟨S2x7168x2048, .bf16⟩
  | .hbm, ⟨12, _⟩ => ⟨S2x64x32x576x32, .bf16⟩
  | .hbm, ⟨13, _⟩ => ⟨S2x64x576, .bf16⟩
  | .hbm, ⟨14, _⟩ => ⟨S2x64x1x576x1, .bf16⟩
  | .hbm, ⟨15, _⟩ => ⟨S2x64x32x576x32, .bf16⟩
  | .hbm, ⟨16, _⟩ => ⟨S2x64x32x576x32, .bf16⟩
  | .hbm, ⟨17, _⟩ => ⟨S2x2048x18432, .bf16⟩
  | .hbm, ⟨18, _⟩ => ⟨S7168x18432, .f32⟩
  | .local _ .vmem, ⟨0, _⟩ => ⟨S2x7168x2048, .i8⟩
  | .local _ .vmem, ⟨1, _⟩ => ⟨S2x2048x18432, .i8⟩
  | .local _ .vmem, ⟨2, _⟩ => ⟨S2x7168x2048, .bf16⟩
  | .local _ .vmem, ⟨3, _⟩ => ⟨S2x2048x18432, .bf16⟩
  | _, _ => ⟨S2x7168x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x7168x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048x18432 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x7168x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2048x18432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Pay.lean ====
module

public import proofs.«01_k».proof.Proof.Gen.KernelIdeal.Skeleton
public import Idealize.ShloMosaic.Lib.Pointwise

@[expose] public section

set_option maxRecDepth 16384

noncomputable section

namespace Cert.KernelIdeal.Pay

open Idealize.ShloMosaic Idealize.SL.Sem
open Cert.KernelIdeal Cert.KernelIdeal.Gen

/-- The stored dequantised block of batch 0 at an entry: the code as a real number times its block's scale. -/
theorem pay1_apply (w : Vec Ideal S1x2048x512 .i8) (s : FVec Ideal S1x64x512 .bf16) (k : Fin 2048) (o : Fin 512) :
    k0_pay1 (F := Ideal) w s (ix3 0 k o)
      = FloatOps.sitofp (F := Ideal) .bf16 (w (ix3 0 k o)) * s (ix3 0 ⟨k.val / 32, by omega⟩ o) := by
  pointwise [k0_pay1]

/-- The stored dequantised block of batch 1 at an entry: the code as a real number times its block's scale. -/
theorem pay2_apply (w : Vec Ideal S1x2048x512 .i8) (s : FVec Ideal S1x64x512 .bf16) (k : Fin 2048) (o : Fin 512) :
    k0_pay2 (F := Ideal) w s (ix3 0 k o)
      = FloatOps.sitofp (F := Ideal) .bf16 (w (ix3 0 k o)) * s (ix3 0 ⟨k.val / 32, by omega⟩ o) := by
  pointwise [k0_pay2]

/-- The output block at an entry: per batch, the sum over the sequence of the dequantised left entry times the right
    entry read from the carried buffer; the two batches added. -/
theorem pay3_apply (v3 : Vec Ideal S1x1024x2048 .i8) (v5 : FVec Ideal S1x32x2048 .bf16) (v13 : FVec Ideal S1x2048x512 .bf16)
    (v16 : Vec Ideal S1x1024x2048 .i8) (v18 : FVec Ideal S1x32x2048 .bf16) (v26 : FVec Ideal S1x2048x512 .bf16) (r : Fin 1024) (o : Fin 512) :
    k0_pay3 (F := Ideal) v3 v5 v13 v16 v18 v26 (ix2 r o)
      = ∑ k : Fin 2048, FloatOps.sitofp (F := Ideal) .bf16 (v3 (ix3 0 r k)) * v5 (ix3 0 ⟨r.val / 32, by omega⟩ k) * v13 (ix3 0 k o)
        + ∑ k : Fin 2048, FloatOps.sitofp (F := Ideal) .bf16 (v16 (ix3 0 r k)) * v18 (ix3 0 ⟨r.val / 32, by omega⟩ k) * v26 (ix3 0 k o) := by
  pointwise [k0_pay3]

end Cert.KernelIdeal.Pay
-- ==== Proof.Blocks.lean ====
module

public import proofs.«01_k».proof.Proof.Gen.KernelIdeal.Value
public import Idealize.ShloMosaic.Lib.Pipeline.ValueKit
public import Idealize.ShloMosaic.Lib.Pipeline.ReadBack
public import Idealize.ShloMosaic.Lib.Claim
public import proofs.«01_k».proof.Proof.Pay

@[expose] public section

set_option maxRecDepth 16384

noncomputable section

namespace Cert.KernelIdeal.Blocks

open Idealize.ShloMosaic Idealize.ShloMosaic.TcCoe Idealize.SL.Sem
open Cert.KernelIdeal Cert.KernelIdeal.Gen Cert.KernelIdeal.Pay

variable (m : (ℓ : Loc nD τ sig) → Buf (Elt Ideal) ℓ)

/-- The windows' block indices at point `t`: column block `t / 7`, row block `t % 7`. -/
theorem idx : ∀ t : Fin cfg0.N, win0_0.index t = ![0, t.val % 7, 0] ∧ win0_1.index t = ![0, t.val % 7, 0]
    ∧ win0_2.index t = ![0, 0, t.val / 7] ∧ win0_3.index t = ![0, 0, t.val / 7] ∧ win0_4.index t = ![t.val % 7, t.val / 7]
    ∧ t.val / 7 < 36 :=
  (by decide +kernel : ∀ t : Fin grid0.N, _)

/-- The staged left codes at an entry, in the argument array. -/
theorem iblk0 (c : Dev nD) (t : Fin cfg0.N) (b : Fin 2) (r : Fin 1024) (k : Fin 2048) :
    iblk m c 0 t (ix3 b r k) = m ((c : Thread nD τ).loc main_arg0) (ix3 b ⟨1024 * (t.val % 7) + r.val, by omega⟩ k) := by
  blk_ext [iblk, V, idx t]

/-- The staged left scales at an entry, in the argument array: the host repeats each along 32 sequence positions. -/
theorem iblk1 (c : Dev nD) (t : Fin cfg0.N) (b : Fin 2) (q : Fin 32) (k : Fin 2048) :
    iblk m c 1 t (ix3 b q k) = m ((c : Thread nD τ).loc main_arg1) (ix3 b ⟨32 * (t.val % 7) + q.val, by omega⟩ ⟨k.val / 32, by omega⟩) := by
  blk_simp [iblk, idx t]
  entry_read
  pointwise
  blk_ext [idx t]

/-- The staged right codes at an entry, in the argument array. -/
theorem iblk2 (c : Dev nD) (t : Fin cfg0.N) (b : Fin 2) (k : Fin 2048) (o : Fin 512) (h : t.val / 7 < 36) :
    iblk m c 2 t (ix3 b k o) = m ((c : Thread nD τ).loc main_arg2) (ix3 b k ⟨512 * (t.val / 7) + o.val, by omega⟩) := by
  blk_ext [iblk, V, idx t]

/-- The staged right scales at an entry, in the argument array: the host repeats each along 32 columns. -/
theorem iblk3 (c : Dev nD) (t : Fin cfg0.N) (b : Fin 2) (q : Fin 64) (o : Fin 512) (h : t.val / 7 < 36) :
    iblk m c 3 t (ix3 b q o) = m ((c : Thread nD τ).loc main_arg3) (ix3 b q ⟨(512 * (t.val / 7) + o.val) / 32, by omega⟩) := by
  blk_simp [iblk, idx t]
  entry_read
  pointwise
  blk_ext [idx t]

/-- The dequantised right operand at batch `b`, sequence position `k`, column `o`: the code times its block's scale. -/
def dyd (D : IVec S2x2048x18432 8) (Ds : FVec Ideal S2x64x576 .f32) (b : Fin 2) (k : Fin 2048) (o : Fin 18432) : EReal :=
  FloatOps.sitofp (F := Ideal) .bf16 (D (ix3 b k o)) * Ds (ix3 b ⟨k.val / 32, by omega⟩ ⟨o.val / 32, by omega⟩)

/-- The dequantised left operand at batch `b`, row `i`, sequence position `k`: the code times its block's scale. -/
def xd (X : IVec S2x7168x2048 8) (Xs : FVec Ideal S2x224x64 .f32) (b : Fin 2) (i : Fin 7168) (k : Fin 2048) : EReal :=
  FloatOps.sitofp (F := Ideal) .bf16 (X (ix3 b i k)) * Xs (ix3 b ⟨i.val / 32, by omega⟩ ⟨k.val / 32, by omega⟩)

/-- Column `o` of the column block of point `t`. -/
def col (t : Fin cfg0.N) (o : Fin 512) : Fin 18432 := ⟨512 * (t.val / 7) + o.val, by have := (idx t).2.2.2.2.2; omega⟩

/-- Row `r` of the row block of point `t`. -/
def row (t : Fin cfg0.N) (r : Fin 1024) : Fin 7168 := ⟨1024 * (t.val % 7) + r.val, by omega⟩

/-- The staged right code times its staged scale is the dequantised right operand at the array's column. -/
theorem dblk (c : Dev nD) (t : Fin cfg0.N) (b : Fin 2) (k : Fin 2048) (o : Fin 512) :
    FloatOps.sitofp (F := Ideal) .bf16 (iblk m c 2 t (ix3 b k o)) * (show EReal from iblk m c 3 t (ix3 b ⟨k.val / 32, by omega⟩ o))
      = dyd (m ((c : Thread nD τ).loc main_arg2)) (m ((c : Thread nD τ).loc main_arg3)) b k (col t o) := by
  rw [iblk2 m c t b k o (idx t).2.2.2.2.2, iblk3 m c t b _ o (idx t).2.2.2.2.2]
  rfl

/-- The staged left code times its staged scale is the dequantised left operand at the array's row. -/
theorem xblk (c : Dev nD) (t : Fin cfg0.N) (b : Fin 2) (r : Fin 1024) (k : Fin 2048) :
    FloatOps.sitofp (F := Ideal) .bf16 (iblk m c 0 t (ix3 b r k)) * (show EReal from iblk m c 1 t (ix3 b ⟨r.val / 32, by omega⟩ k))
      = xd (m ((c : Thread nD τ).loc main_arg0)) (m ((c : Thread nD τ).loc main_arg1)) b (row t r) k := by
  rw [iblk0 m c t b r k, iblk1 m c t b _ k]
  have e : (⟨32 * (t.val % 7) + r.val / 32, by omega⟩ : Fin 224) = ⟨(row t r).val / 32, by omega⟩ := by
    apply Fin.ext
    show 32 * (t.val % 7) + r.val / 32 = (1024 * (t.val % 7) + r.val) / 32
    omega
  exact congrArg (fun q : Fin 224 => FloatOps.sitofp (F := Ideal) .bf16 (m ((c : Thread nD τ).loc main_arg0) (ix3 b (row t r) k))
    * (show EReal from m ((c : Thread nD τ).loc main_arg1) (ix3 b q ⟨k.val / 32, by omega⟩))) e

/-- THE RESULT AT AN ELEMENT: per batch the sum over the sequence of dequantised left times dequantised right, the two
    batches added. -/
def out (X : IVec S2x7168x2048 8) (Xs : FVec Ideal S2x224x64 .f32) (D : IVec S2x2048x18432 8) (Ds : FVec Ideal S2x64x576 .f32)
    (i : Fin 7168) (o : Fin 18432) : EReal :=
  ∑ k : Fin 2048, xd X Xs 0 i k * dyd D Ds 0 k o + ∑ k : Fin 2048, xd X Xs 1 i k * dyd D Ds 1 k o

/-- At a point that starts a column block the carried buffer ends at the dequantised right operand of that block. -/
theorem scrA (c : Dev nD) (t : Fin cfg0.N) (h : t.val % 7 = 0) (b : Fin 2) (k : Fin 2048) (o : Fin 512) :
    (outsAt0 m c t.val t.isLt).2 (ix3 b k o)
      = dyd (m ((c : Thread nD τ).loc main_arg2)) (m ((c : Thread nD τ).loc main_arg3)) b k (col t o) := by
  rw [outsAt0_A m c t h]
  dsimp only
  frame_out
  canon_tiles x hx
  · have hb : b = 1 := by
      apply Fin.ext
      have : b.val = 1 + (x 0).val := hx0
      show b.val = 1
      omega
    obtain rfl : x = ix3 0 k o := by
      funext a
      apply Fin.ext
      match a with
      | ⟨0, _⟩ => show (x 0).val = 0; omega
      | ⟨1, _⟩ => exact hx1.symm
      | ⟨2, _⟩ => exact hx2.symm
    subst hb
    rw [pay2_apply]
    pointwise
    exact dblk m c t 1 k o
  · have hb : b = 0 := by
      apply Fin.ext
      have : b.val = (x 0).val := hx0
      show b.val = 0
      omega
    obtain rfl : x = ix3 0 k o := by
      funext a
      apply Fin.ext
      match a with
      | ⟨0, _⟩ => show (x 0).val = 0; omega
      | ⟨1, _⟩ => exact hx1.symm
      | ⟨2, _⟩ => exact hx2.symm
    subst hb
    rw [pay1_apply]
    pointwise
    exact dblk m c t 0 k o

/-- At a point that starts a column block the output block is the result at the block's place in the array. -/
theorem outA (c : Dev nD) (t : Fin cfg0.N) (h : t.val % 7 = 0) (r : Fin 1024) (o : Fin 512) :
    (outsAt0 m c t.val t.isLt).1 (ix2 r o)
      = out (m ((c : Thread nD τ).loc main_arg0)) (m ((c : Thread nD τ).loc main_arg1))
          (m ((c : Thread nD τ).loc main_arg2)) (m ((c : Thread nD τ).loc main_arg3)) (row t r) (col t o) := by
  rw [outsAt0_A m c t h]
  dsimp only
  frame_out
  rw [View.readCov_cons_toLoadRect, View.readCov_skip _ _ _ _ _ (by decide +kernel), View.readCov_cons_toLoadRect, pay3_apply]
  refine congrArg₂ (· + ·) (Finset.sum_congr rfl fun k _ => ?_) (Finset.sum_congr rfl fun k _ => ?_)
  · rw [pay1_apply]
    pointwise
    exact congrArg₂ (· * ·) (xblk m c t 0 r k) (dblk m c t 0 k o)
  · rw [pay2_apply]
    pointwise
    exact congrArg₂ (· * ·) (xblk m c t 1 r k) (dblk m c t 1 k o)

/-- At a later point of a column block, if the carried buffer holds the dequantised right operand of that block, the
    output block is the result at the block's place in the array. -/
theorem outB (c : Dev nD) (t : Fin cfg0.N) (h : ¬ t.val % 7 = 0)
    (hs : ∀ (b : Fin 2) (k : Fin 2048) (o : Fin 512),
      (outsAt0 m c (t.val - 1) (Nat.lt_of_le_of_lt (Nat.sub_le _ _) t.isLt)).2 (ix3 b k o)
        = dyd (m ((c : Thread nD τ).loc main_arg2)) (m ((c : Thread nD τ).loc main_arg3)) b k (col t o))
    (r : Fin 1024) (o : Fin 512) :
    (outsAt0 m c t.val t.isLt).1 (ix2 r o)
      = out (m ((c : Thread nD τ).loc main_arg0)) (m ((c : Thread nD τ).loc main_arg1))
          (m ((c : Thread nD τ).loc main_arg2)) (m ((c : Thread nD τ).loc main_arg3)) (row t r) (col t o) := by
  rw [outsAt0_B m c t h]
  dsimp only
  frame_out
  rw [read_unread_whole, pay3_apply]
  refine congrArg₂ (· + ·) (Finset.sum_congr rfl fun k _ => ?_) (Finset.sum_congr rfl fun k _ => ?_)
  · pointwise
    exact congrArg₂ (· * ·) (xblk m c t 0 r k) (hs 0 k o)
  · pointwise
    exact congrArg₂ (· * ·) (xblk m c t 1 r k) (hs 1 k o)

/-- THE CARRIED BUFFER, every point: the dequantised right operand of the point's column block. -/
theorem scr (c : Dev nD) : ∀ (n : ℕ) (hn : n < cfg0.N) (b : Fin 2) (k : Fin 2048) (o : Fin 512),
    (outsAt0 m c n hn).2 (ix3 b k o)
      = dyd (m ((c : Thread nD τ).loc main_arg2)) (m ((c : Thread nD τ).loc main_arg3)) b k (col ⟨n, hn⟩ o) := by
  intro n
  induction n with
  | zero => intro hn b k o; exact scrA m c ⟨0, hn⟩ rfl b k o
  | succ n ih =>
    intro hn b k o
    by_cases h : (n + 1) % 7 = 0
    · exact scrA m c ⟨n + 1, hn⟩ h b k o
    · have e : col ⟨n + 1, hn⟩ o = col ⟨n, Nat.lt_of_succ_lt hn⟩ o := by
        apply Fin.ext
        show 512 * ((n + 1) / 7) + o.val = 512 * (n / 7) + o.val
        omega
      rw [e, ← ih (Nat.lt_of_succ_lt hn) b k o]
      have hB := outsAt0_B m c ⟨n + 1, hn⟩ h
      exact congrFun (congrArg Prod.snd hB) (ix3 b k o)

/-- THE OUTPUT BLOCK, every point: the result at the block's place in the array. -/
theorem outAll (c : Dev nD) (t : Fin cfg0.N) (r : Fin 1024) (o : Fin 512) :
    (outsAt0 m c t.val t.isLt).1 (ix2 r o)
      = out (m ((c : Thread nD τ).loc main_arg0)) (m ((c : Thread nD τ).loc main_arg1))
          (m ((c : Thread nD τ).loc main_arg2)) (m ((c : Thread nD τ).loc main_arg3)) (row t r) (col t o) := by
  by_cases h : t.val % 7 = 0
  · exact outA m c t h r o
  · refine outB m c t h (fun b k o => ?_) r o
    rw [scr m c (t.val - 1) _ b k o]
    congr 1
    apply Fin.ext
    show 512 * ((t.val - 1) / 7) + o.val = 512 * (t.val / 7) + o.val
    omega

/-- The result array over the four arguments. -/
def OUT (X : IVec S2x7168x2048 8) (Xs : FVec Ideal S2x224x64 .f32) (D : IVec S2x2048x18432 8) (Ds : FVec Ideal S2x64x576 .f32) :
    FVec Ideal S7168x18432 .f32 := fun j => out X Xs D Ds (j 0) (j 1)

/-- After the last point the output array is the result array of the arguments. -/
theorem final (c : Dev nD) : (dats m 0 c).arrAt 4 (cfgs 0).N
    = OUT (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  idx_vars y
  refine (outAll m c t y0 y1).trans ?_
  show out _ _ _ _ (row t y0) (col t y1) = out _ _ _ _ _ _
  congr 1
  · apply Fin.ext
    show 1024 * (t.val % 7) + y0.val = _
    blk_simp [idx t]
    omega
  · apply Fin.ext
    show 512 * (t.val / 7) + y1.val = _
    blk_simp [idx t]
    omega

end Cert.KernelIdeal.Blocks
-- ==== Proof.RefRun.lean ====
module

public import proofs.«01_k».proof.Proof.Gen.ReferenceIdeal.Frame
public import Idealize.ShloMosaic.Lib.Pipeline.ValueKit
public import Idealize.ShloMosaic.Lib.Pipeline.FrameTail
public import Idealize.ShloMosaic.Lib.Claim

@[expose] public section

set_option maxRecDepth 16384

noncomputable section

namespace Cert.ReferenceIdeal.RefRun

open Idealize.ShloMosaic Idealize.ShloMosaic.TcCoe Idealize.SL.Sem
open Cert.ReferenceIdeal Cert.ReferenceIdeal.Gen

variable {F : FTy → Type} [FloatOps F]
variable (m : (ℓ : Loc nD τ sig) → Buf (Elt F) ℓ) (ρ : Dev nD → PrngReg)

/-- The reference's dequantised left operand: the codes widened to bf16, each multiplied by its block's scale. -/
def XD (X : IVec S2x7168x2048 8) (Xs : FVec F S2x224x64 .f32) : FVec F S2x7168x2048 .bf16 :=
  shapeCast S2x7168x2048
    (mulf (shapeCast S2x224x32x64x32 (k0_pay1 X) shapeCasts_S2x7168x2048_S2x224x32x64x32)
      (broadcastInDim S2x224x32x64x32 ![0, 1, 2, 3, 4] bcast_S2x224x1x64x1_S2x224x32x64x32_0_1_2_3_4
        (broadcastInDim S2x224x1x64x1 ![0, 1, 3] bcast_S2x224x64_S2x224x1x64x1_0_1_3 (truncf .bf16 Xs bitsLt_bf16_f32))))
    shapeCasts_S2x224x32x64x32_S2x7168x2048

/-- The reference's dequantised right operand: the codes widened to bf16, each multiplied by its block's scale. -/
def DYD (D : IVec S2x2048x18432 8) (Ds : FVec F S2x64x576 .f32) : FVec F S2x2048x18432 .bf16 :=
  shapeCast S2x2048x18432
    (mulf (shapeCast S2x64x32x576x32 (k0_pay2 D) shapeCasts_S2x2048x18432_S2x64x32x576x32)
      (broadcastInDim S2x64x32x576x32 ![0, 1, 2, 3, 4] bcast_S2x64x1x576x1_S2x64x32x576x32_0_1_2_3_4
        (broadcastInDim S2x64x1x576x1 ![0, 1, 3] bcast_S2x64x576_S2x64x1x576x1_0_1_3 (truncf .bf16 Ds bitsLt_bf16_f32))))
    shapeCasts_S2x64x32x576x32_S2x2048x18432

/-- The reference's result over its four arguments: the two dequantised operands contracted over batch and sequence. -/
def REF (X : IVec S2x7168x2048 8) (Xs : FVec F S2x224x64 .f32) (D : IVec S2x2048x18432 8) (Ds : FVec F S2x64x576 .f32) :
    FVec F S7168x18432 .f32 :=
  Host.dotGeneral dot_S2x7168x2048_S2x2048x18432_S7168x18432_02_01_1_2_n_n none (XD X Xs) (DYD D Ds)

/-- Every window of the widening launch is its whole array: block index zero. -/
theorem idx : ∀ t : Fin cfg0.N, win0_0.index t = ![0, 0, 0] ∧ win0_1.index t = ![0, 0, 0]
    ∧ win0_2.index t = ![0, 0, 0] ∧ win0_3.index t = ![0, 0, 0] :=
  (by decide +kernel : ∀ t : Fin grid0.N, _)

/-- After the launch the first widened array holds the left codes as bf16 numbers. -/
theorem final2 (c : Dev nD) : (dats m 0 c).arrAt 2 (cfgs 0).N = k0_pay1 (m ((c : Thread nD τ).loc main_arg0)) := by
  refine (dats m 0 c).arrAt_eq_of_after_last 2 t0_0 (by decide +kernel) _ fun j => ?_
  blk_simp
  rw [after0_2]
  frame_out
  blk_point [iblk, V, idx t0_0]

/-- After the launch the second widened array holds the right codes as bf16 numbers. -/
theorem final3 (c : Dev nD) : (dats m 0 c).arrAt 3 (cfgs 0).N = k0_pay2 (m ((c : Thread nD τ).loc main_arg2)) := by
  refine (dats m 0 c).arrAt_eq_of_after_last 3 t0_0 (by decide +kernel) _ fun j => ?_
  blk_simp
  rw [after0_3]
  frame_out
  blk_point [iblk, V, idx t0_0]

/-- The host operations after the launch leave the composed reference term in the result buffer. -/
theorem tail13 (c : Dev nD) : Pipeline.afterTail₀ cfgs (dats m) 0 (V0 m) [hostOps1] c main_v13
    = REF (m ((c : Thread nD τ).loc main_arg0)) (m ((c : Thread nD τ).loc main_arg1))
        (m ((c : Thread nD τ).loc main_arg2)) (m ((c : Thread nD τ).loc main_arg3)) := by
  unfold Pipeline.afterTail₀
  simp only [List.flatten_cons, List.flatten_nil, List.append_nil]
  after_results
  have e0 : Pipeline.withArrays (cfgs 0).spec c (V0 m c) (fun w => (dats m 0 c).arrAt w (cfgs 0).N) (Proc.tc.devRef main_v0_0)
      = k0_pay1 (m ((c : Thread nD τ).loc main_arg0)) :=
    (Pipeline.withArrays_arr spec0 launch0.win.arr_inj c (V0 m c) _ 2).trans (final2 m c)
  have e1 : Pipeline.withArrays (cfgs 0).spec c (V0 m c) (fun w => (dats m 0 c).arrAt w (cfgs 0).N) (Proc.tc.devRef main_v0_1)
      = k0_pay2 (m ((c : Thread nD τ).loc main_arg2)) :=
    (Pipeline.withArrays_arr spec0 launch0.win.arr_inj c (V0 m c) _ 3).trans (final3 m c)
  have e2 : Pipeline.withArrays (cfgs 0).spec c (V0 m c) (fun w => (dats m 0 c).arrAt w (cfgs 0).N) (Proc.tc.devRef main_arg1)
      = m ((c : Thread nD τ).loc main_arg1) :=
    (Pipeline.withArrays_of_ne spec0 c (V0 m c) _ main_arg1 (by exact (by decide : ∀ w, Pipeline.arrRef spec0 w ≠ main_arg1)))
  have e3 : Pipeline.withArrays (cfgs 0).spec c (V0 m c) (fun w => (dats m 0 c).arrAt w (cfgs 0).N) (Proc.tc.devRef main_arg3)
      = m ((c : Thread nD τ).loc main_arg3) :=
    (Pipeline.withArrays_of_ne spec0 c (V0 m c) _ main_arg3 (by exact (by decide : ∀ w, Pipeline.arrRef spec0 w ≠ main_arg3)))
  rw [e0, e1, e2, e3]
  rfl

/-- THE REFERENCE'S RUN: the result buffer ends at `REF` of the arguments, and the arguments end unchanged. -/
theorem run : θ_run defs (onTc (τ := τ) (main (F := F))) ⟨m, fun _ => 0, ρ⟩ (fun r => ∀ c : Dev nD,
      r.2.mem ((c.tc : Thread nD τ).loc main_v13) = REF (m ((c : Thread nD τ).loc main_arg0)) (m ((c : Thread nD τ).loc main_arg1))
        (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v13 (Pipeline.mem_restRefs_of main_v13 (by decide) (by decide))).trans (tail13 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩) (run_main m ρ)

/-- THE REFERENCE AT AN ELEMENT: over the reals entry `(i, o)` is the sum over batch and sequence of the dequantised
    left entry times the dequantised right entry. -/
theorem REF_apply (X : IVec S2x7168x2048 8) (Xs : FVec Ideal S2x224x64 .f32) (D : IVec S2x2048x18432 8) (Ds : FVec Ideal S2x64x576 .f32)
    (i : Fin 7168) (o : Fin 18432) : REF X Xs D Ds (ix2 i o) = ∑ b : Fin 2, ∑ k : Fin 2048,
        FloatOps.sitofp (F := Ideal) .bf16 (X (ix3 b i k)) * Xs (ix3 b ⟨i.val / 32, by omega⟩ ⟨k.val / 32, by omega⟩)
          * (FloatOps.sitofp (F := Ideal) .bf16 (D (ix3 b k o)) * Ds (ix3 b ⟨k.val / 32, by omega⟩ ⟨o.val / 32, by omega⟩)) := by
  pointwise [REF, XD, DYD, k0_pay1, k0_pay2]

end Cert.ReferenceIdeal.RefRun
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Blocks
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The kernel's result array is the reference's: the reference's sum over batch and sequence, written as the sum of
    the two batches. -/
theorem out_eq_ref (X : IVec Cert.KernelIdeal.S2x7168x2048 8) (Xs : FVec Ideal Cert.KernelIdeal.S2x224x64 .f32)
    (D : IVec Cert.KernelIdeal.S2x2048x18432 8) (Ds : FVec Ideal Cert.KernelIdeal.S2x64x576 .f32) :
    Cert.KernelIdeal.Blocks.OUT X Xs D Ds = Cert.ReferenceIdeal.RefRun.REF (F := Ideal) X Xs D Ds := by
  funext j
  idx_vars j
  refine Eq.trans ?_ (Cert.ReferenceIdeal.RefRun.REF_apply X Xs D Ds j0 j1).symm
  rw [Fin.sum_univ_two]
  rfl

/-- From agreeing arguments the idealized kernel and the idealized reference end with equal results over the reals. -/
theorem algebraic : Cert.algebraic_KernelIdeal_ReferenceIdeal := by
  intro m g m' g' _ hargs
  refine ⟨fun c => Cert.KernelIdeal.Value.G4 m c, Cert.KernelIdeal.Value.run m g, ?_⟩
  refine (θ_run Cert.ReferenceIdeal.defs _ _).mono (fun _ h c => ⟨?_, (h c).2⟩) (Cert.ReferenceIdeal.RefRun.run m' g')
  refine (h c).1.trans ?_
  obtain ⟨h0, h1, h2, h3⟩ := hargs c
  refine Eq.trans ?_ (Cert.KernelIdeal.Value.final4 m c)
  refine Eq.trans ?_ (Cert.KernelIdeal.Blocks.final m c).symm
  rw [h0, h1, h2, h3]
  exact (out_eq_ref _ _ _ _).symm

/-- Every claim: the three programs end with their arguments unchanged, the idealization preserves the kernel's
    meaning, and the idealized kernel computes the reference's result. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
